-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x4096 : Shape := ⟨3, ![4, 4096, 4096]⟩
abbrev S1x4096 : Shape := ⟨2, ![1, 4096]⟩
abbrev S1 : Shape := ⟨1, ![1]⟩
abbrev S4x4096x1 : Shape := ⟨3, ![4, 4096, 1]⟩
abbrev S1x1x1 : Shape := ⟨3, ![1, 1, 1]⟩
abbrev S4x4096 : Shape := ⟨2, ![4, 4096]⟩
abbrev S4x1x4096 : Shape := ⟨3, ![4, 1, 4096]⟩
abbrev S32x1x512 : Shape := ⟨3, ![32, 1, 512]⟩
abbrev S4x1x2048 : Shape := ⟨3, ![4, 1, 2048]⟩
abbrev S1x1x4096 : Shape := ⟨3, ![1, 1, 4096]⟩
abbrev S1x1x512 : Shape := ⟨3, ![1, 1, 512]⟩
abbrev S1x1x2048 : Shape := ⟨3, ![1, 1, 2048]⟩
abbrev S1x512 : Shape := ⟨2, ![1, 512]⟩
abbrev S512x1 : Shape := ⟨2, ![512, 1]⟩
abbrev S512x4096 : Shape := ⟨2, ![512, 4096]⟩
abbrev S512 : Shape := ⟨1, ![512]⟩
abbrev S512x2048 : Shape := ⟨2, ![512, 2048]⟩
abbrev S1x2048 : Shape := ⟨2, ![1, 2048]⟩
abbrev S4x2048 : Shape := ⟨2, ![4, 2048]⟩

abbrev nBuf : Space → Nat
  | .hbm => 14
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S1, .f32⟩
  | .hbm, ⟨3, _⟩ => ⟨S4x4096x1, .f32⟩
  | .hbm, ⟨4, _⟩ => ⟨S1x1x1, .f32⟩
  | .hbm, ⟨5, _⟩ => ⟨S4x4096x1, .f32⟩
  | .hbm, ⟨6, _⟩ => ⟨S4x4096x1, .f32⟩
  | .hbm, ⟨7, _⟩ => ⟨S4x4096, .f32⟩
  | .hbm, ⟨8, _⟩ => ⟨S4x1x4096, .f32⟩
  | .hbm, ⟨9, _⟩ => ⟨S32x1x512, .f32⟩
  | .hbm, ⟨10, _⟩ => ⟨S4x1x2048, .f32⟩
  | .hbm, ⟨11, _⟩ => ⟨S4x4096, .f32⟩
  | .hbm, ⟨12, _⟩ => ⟨S4x2048, .f32⟩
  | .hbm, ⟨13, _⟩ => ⟨S4x2048, .i32⟩
  | .local _ .vmem, ⟨0, _⟩ => ⟨S1x1x4096, .f32⟩
  | .local _ .vmem, ⟨1, _⟩ => ⟨S1x1x4096, .f32⟩
  | .local _ .vmem, ⟨2, _⟩ => ⟨S1x1x512, .f32⟩
  | .local _ .vmem, ⟨3, _⟩ => ⟨S1x1x512, .f32⟩
  | .local _ .vmem, ⟨4, _⟩ => ⟨S1x1x2048, .f32⟩
  | .local _ .vmem, ⟨5, _⟩ => ⟨S1x1x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0 : Index := 0#32
  let c0_0 : Index := 0#32
  let arg1 : BitVec 32 := BitVec.ofNat 32 (i 1).val
  let c512_i32 : BitVec 32 := 512#32
  let v0 : BitVec 32 := Scalar.muli arg1 c512_i32
  let v1 : Index := Scalar.indexCast v0
  ![0, 0, v1.toNat]
def k0_off2 : Fin 3 → Nat :=
  let c0_1 : Index := 0#32
  let c0_2 : Index := 0#32
  let c0_i32 : BitVec 32 := 0#32
  let c4096_i32 : BitVec 32 := 4096#32
  let v6 : BitVec 32 := Scalar.muli c0_i32 c4096_i32
  let v7 : Index := Scalar.indexCast v6
  ![0, 0, v7.toNat]
def k0_cond1 (i : grid0.Coords) : BitVec 1 :=
  let arg1 : BitVec 32 := BitVec.ofNat 32 (i 1).val
  let c0_i32_10 : BitVec 32 := 0#32
  let v50 : BitVec 1 := Scalar.cmpi .eq arg1 c0_i32_10
  let v51 : BitVec 32 := Scalar.extui v50
  let c0_i32_11 : BitVec 32 := 0#32
  let v52 : BitVec 1 := Scalar.cmpi .ne v51 c0_i32_11
  v52

def k0_cond2 (i : grid0.Coords) : BitVec 1 :=
  let arg1 : BitVec 32 := BitVec.ofNat 32 (i 1).val
  let c0_i32_12 : BitVec 32 := 0#32
  let v53 : BitVec 1 := Scalar.cmpi .ne arg1 c0_i32_12
  let v54 : BitVec 32 := Scalar.extui v53
  let c0_i32_13 : BitVec 32 := 0#32
  let v55 : BitVec 1 := Scalar.cmpi .ne v54 c0_i32_13
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S4x4096x4096 : Shape := ⟨3, ![4, 4096, 4096]⟩
abbrev S1x4096 : Shape := ⟨2, ![1, 4096]⟩
abbrev S1 : Shape := ⟨1, ![1]⟩
abbrev S4x4096x1 : Shape := ⟨3, ![4, 4096, 1]⟩
abbrev S1x1x1 : Shape := ⟨3, ![1, 1, 1]⟩
abbrev S4x4096 : Shape := ⟨2, ![4, 4096]⟩
abbrev S4x2048 : Shape := ⟨2, ![4, 2048]⟩
abbrev S_ : Shape := ⟨0, ![]⟩
abbrev S4 : Shape := ⟨1, ![4]⟩
abbrev S4x1 : Shape := ⟨2, ![4, 1]⟩
abbrev S4x2048x1 : Shape := ⟨3, ![4, 2048, 1]⟩
abbrev S4x2048x2 : Shape := ⟨3, ![4, 2048, 2]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S1, .f32⟩
  | .hbm, ⟨3, _⟩ => ⟨S4x4096x1, .f32⟩
  | .hbm, ⟨4, _⟩ => ⟨S1x1x1, .f32⟩
  | .hbm, ⟨5, _⟩ => ⟨S4x4096x1, .f32⟩
  | .hbm, ⟨6, _⟩ => ⟨S4x4096x1, .f32⟩
  | .hbm, ⟨7, _⟩ => ⟨S4x4096, .f32⟩
  | .hbm, ⟨8, _⟩ => ⟨S4x2048, .f32⟩
  | .hbm, ⟨9, _⟩ => ⟨S4x2048, .i32⟩
  | .hbm, ⟨10, _⟩ => ⟨S_, .f32⟩
  | .hbm, ⟨11, _⟩ => ⟨S4x4096, .f32⟩
  | .hbm, ⟨12, _⟩ => ⟨S4, .i32⟩
  | .hbm, ⟨13, _⟩ => ⟨S4x1, .i32⟩
  | .hbm, ⟨14, _⟩ => ⟨S_, .i32⟩
  | .hbm, ⟨15, _⟩ => ⟨S4x1, .i32⟩
  | .hbm, ⟨16, _⟩ => ⟨S4x1, .i1⟩
  | .hbm, ⟨17, _⟩ => ⟨S_, .i32⟩
  | .hbm, ⟨18, _⟩ => ⟨S4x1, .i32⟩
  | .hbm, ⟨19, _⟩ => ⟨S4x1, .i32⟩
  | .hbm, ⟨20, _⟩ => ⟨S4x1, .i32⟩
  | .hbm, ⟨21, _⟩ => ⟨S_, .i32⟩
  | .hbm, ⟨22, _⟩ => ⟨S4x2048, .i32⟩
  | .hbm, ⟨23, _⟩ => ⟨S4x2048, .i1⟩
  | .hbm, ⟨24, _⟩ => ⟨S_, .i32⟩
  | .hbm, ⟨25, _⟩ => ⟨S4x2048, .i32⟩
  | .hbm, ⟨26, _⟩ => ⟨S4x2048, .i32⟩
  | .hbm, ⟨27, _⟩ => ⟨S4x2048, .i32⟩
  | .hbm, ⟨28, _⟩ => ⟨S4x2048, .i32⟩
  | .hbm, ⟨29, _⟩ => ⟨S4x2048x1, .i32⟩
  | .hbm, ⟨30, _⟩ => ⟨S4x2048x1, .i32⟩
  | .hbm, ⟨31, _⟩ => ⟨S4x2048x2, .i32⟩
  | .hbm, ⟨32, _⟩ => ⟨S_, .f32⟩
  | .hbm, ⟨33, _⟩ => ⟨S4x2048, .f32⟩
  | .hbm, ⟨34, _⟩ => ⟨S4x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.Rank.lean ====
/-
  RANKS AND THE STABLE SORT. For finitely many extended reals `s`, the rank of a position `p` is the number of positions
  that come before it when larger entries go first and equal entries keep their order. A stable descending sort puts at
  output position `q` exactly the position of rank `q`; so ranks are a bijection onto `0 … n - 1`, and a sum over all
  positions that keeps only the position of rank `q` is one term.
-/
module

public import Idealize.ShloMosaic.Lib.SortPrefix
public import Idealize.ShloMosaic.PureOps.Ideal
public import Mathlib.Order.Interval.Finset.Fin

@[expose] public section

noncomputable section

namespace Cert.Rank

open Idealize.ShloMosaic

variable {n : Nat}

/-- Position `j` stands before position `p`: its entry is larger, or the same and `j` is the smaller position. -/
def Ahead (s : Fin n → EReal) (j p : Fin n) : Prop := s p < s j ∨ (s j = s p ∧ j < p)

noncomputable instance (s : Fin n → EReal) (j p : Fin n) : Decidable (Ahead s j p) := Classical.propDecidable _

/-- The number of positions that stand before `p`. -/
def rank (s : Fin n → EReal) (p : Fin n) : Nat := (Finset.univ.filter fun j => Ahead s j p).card

/-- The comparator of the descending sort: the larger entry first. -/
def larger (s : Fin n → EReal) (k k' : Fin n) : Bool := decide (s k' < s k)

/-- The same comparator with ties broken by the position. -/
def largerThenFirst (s : Fin n → EReal) (k k' : Fin n) : Bool := larger s k k' || (decide (s k = s k') && decide (k < k'))

/-- That comparator puts `k` first exactly when `k` stands before `k'`. -/
theorem largerThenFirst_iff (s : Fin n → EReal) (k k' : Fin n) : largerThenFirst s k k' = true ↔ Ahead s k k' := by
  simp [largerThenFirst, larger, Ahead]

/-- With ties broken by the position the comparator is a strict total order. -/
theorem strictTotal (s : Fin n → EReal) : StrictTotalBefore (largerThenFirst s) where
  irrefl k := by simp [largerThenFirst, larger]
  trans a b c hab hbc := by
    rw [largerThenFirst_iff] at hab hbc ⊢
    rcases hab with hab | ⟨eab, lab⟩ <;> rcases hbc with hbc | ⟨ebc, lbc⟩
    · exact Or.inl (lt_trans hbc hab)
    · exact Or.inl (ebc ▸ hab)
    · exact Or.inl (eab ▸ hbc)
    · exact Or.inr ⟨eab.trans ebc, lt_trans lab lbc⟩
  total a b hne := by
    rw [largerThenFirst_iff, largerThenFirst_iff]
    rcases lt_trichotomy (s a) (s b) with h | h | h
    · exact Or.inr (Or.inl h)
    · rcases lt_or_gt_of_ne hne with hlt | hgt
      · exact Or.inl (Or.inr ⟨h, hlt⟩)
      · exact Or.inr (Or.inr ⟨h.symm, hgt⟩)
    · exact Or.inl (Or.inl h)

/-- On a list in increasing order of position the stable sort by the entry alone is the sort that breaks ties by the position. -/
theorem stableSort_larger (s : Fin n → EReal) (l : List (Fin n)) (hl : l.Pairwise (· < ·)) :
    stableSort (larger s) l = stableSort (largerThenFirst s) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [largerThenFirst, not_lt_of_gt hab]

/-- Both comparators sort to the same positions. -/
theorem sortedFrom_larger (s : Fin n → EReal) : sortedFrom (larger s) = sortedFrom (largerThenFirst s) := by
  funext k
  unfold sortedFrom
  rw [List.get_of_eq (show sortPositions n (larger s) = sortPositions n (largerThenFirst s) from
    stableSort_larger s _ (List.pairwise_lt_finRange n))]
  rfl

/-- The position that the stable descending sort puts at `q`. -/
def nth (s : Fin n → EReal) (q : Fin n) : Fin n := sortedFrom (larger s) q

/-- Every position is put somewhere. -/
theorem nth_surjective (s : Fin n → EReal) : Function.Surjective (nth s) := sortedFrom_surjective _

/-- No position is put at two places. -/
theorem nth_injective (s : Fin n → EReal) : Function.Injective (nth s) := sortedFrom_injective _

/-- The sorted positions stand in the order of their output positions. -/
theorem ahead_nth_iff (s : Fin n → EReal) (i q : Fin n) : Ahead s (nth s i) (nth s q) ↔ i < q := by
  have hB := strictTotal s
  have key : ∀ i j : Fin n, i < j → Ahead s (nth s i) (nth s j) := fun i j hij => by
    have h := sortedFrom_noInversion (largerThenFirst s) (largerThenFirst s) (fun a b h => hB.asymm a b h) (fun _ _ h => h)
      hB.negTrans i j hij
    have hne : nth s i ≠ nth s j := fun e => absurd (nth_injective s e) (ne_of_lt hij)
    rw [← largerThenFirst_iff]
    unfold nth at hne ⊢
    rw [sortedFrom_larger] at hne ⊢
    rcases hB.total _ _ hne with e | e
    · exact e
    · rw [h] at e; exact absurd e (by decide)
  refine ⟨fun h => ?_, key i q⟩
  by_contra hn
  rcases lt_or_eq_of_le (not_lt.mp hn) with hlt | he
  · have h' := key q i hlt
    rw [← largerThenFirst_iff] at h h'
    rw [hB.asymm _ _ h'] at h
    exact absurd h (by decide)
  · subst he
    rw [← largerThenFirst_iff, hB.irrefl] at h
    exact absurd h (by decide)

/-- The position that the sort puts at `q` has rank `q`. -/
theorem rank_nth (s : Fin n → EReal) (q : Fin n) : rank s (nth s q) = q.val := by
  have e : (Finset.univ.filter fun j => Ahead s j (nth s q)) = (Finset.univ.filter fun i : Fin n => i < q).image (nth s) := by
    ext j
    obtain ⟨i, rfl⟩ := nth_surjective s j
    simp only [Finset.mem_filter, Finset.mem_univ, true_and, Finset.mem_image, ahead_nth_iff]
    exact ⟨fun h => ⟨i, h, rfl⟩, fun ⟨i', h, e⟩ => nth_injective s e ▸ h⟩
  unfold rank
  rw [e, Finset.card_image_of_injective _ (nth_injective s), ← Fin.card_Iio q]
  congr 1
  ext i
  simp

/-- A position has rank `q` exactly when the sort puts it at `q`. -/
theorem rank_eq_iff (s : Fin n → EReal) (p q : Fin n) : rank s p = q.val ↔ nth s q = p := by
  obtain ⟨i, rfl⟩ := nth_surjective s p
  rw [rank_nth]
  exact ⟨fun h => by rw [Fin.ext h], fun h => by rw [nth_injective s h]⟩

/-- A rank is below the number of positions. -/
theorem rank_lt (s : Fin n → EReal) (p : Fin n) : rank s p < n := by
  obtain ⟨i, rfl⟩ := nth_surjective s p
  rw [rank_nth]
  exact i.isLt

/-- A rank is below `k` exactly when the position is one of the first `k` of the sort. -/
theorem rank_lt_iff (s : Fin n → EReal) (p : Fin n) {k : Nat} (hk : k ≤ n) :
    rank s p < k ↔ ∃ q : Fin k, nth s (q.castLE hk) = p := by
  constructor
  · intro h
    exact ⟨⟨rank s p, h⟩, (rank_eq_iff s p _).mp rfl⟩
  · rintro ⟨q, rfl⟩
    rw [rank_nth]
    exact q.isLt

/-- Over all positions, the sum of `f p` at the one position of rank `q`. -/
theorem sum_rank (s : Fin n → EReal) (f : Fin n → EReal) (q : Fin n) :
    (∑ p : Fin n, if rank s p = q.val then f p else 0) = f (nth s q) := by
  simp only [rank_eq_iff]
  rw [Finset.sum_ite_eq]
  simp

/-- A sum of ones over the positions before `p` is the rank. -/
theorem sum_ahead (s : Fin n → EReal) (p : Fin n) :
    (∑ j : Fin n, if Ahead s j p then (1 : EReal) else 0) = ((rank s p : ℝ) : EReal) := by
  rw [Finset.sum_boole]
  rfl

end Cert.Rank

end
-- ==== Proof.Block.lean ====
/-
  WHAT ONE BLOCK COMPUTES. At a grid point the kernel reads a batch's row of scores and the 512 of them at its own
  positions. It counts, for each of its positions, the scores that stand before it: that is the position's rank. The mask
  block is 1 where the rank is below 2048. The index block gets, at output position `q`, the sum of the block's positions
  whose rank is `q`.
-/
module

public import proofs.«01_k».proof.Proof.Gen.KernelIdeal.Frame
public import proofs.«01_k».proof.Proof.Rank
public import Idealize.ShloMosaic.Lib.Pointwise
public import Idealize.ShloMosaic.Lib.WordCmp

@[expose] public section

set_option maxRecDepth 16384

noncomputable section

namespace Cert.Block

open Idealize.ShloMosaic
open Cert.KernelIdeal Cert.KernelIdeal.Gen Cert.Rank

/-- Position `r` of the block's 512 positions, in the whole row. -/
def pos (i : Fin 8) (r : Fin 512) : Fin 4096 := ⟨i.val * 512 + r.val, by omega⟩

/-- A natural number below the largest word, converted to a word. -/
theorem fptosi_natCast (k : Nat) (hk : k < 2 ^ 31) : Ideal.fptosi 32 ((k : ℝ) : EReal) = BitVec.ofNat 32 k := by
  have h : Ideal.toIntClamped (-(2 ^ (32 - 1) : Nat)) ((2 ^ (32 - 1) : Nat) - 1) ((k : ℝ) : EReal) = (k : Int) := by
    show max _ (min _ (if (0 : ℝ) ≤ (k : ℝ) then ⌊(k : ℝ)⌋ else ⌈(k : ℝ)⌉)) = (k : Int)
    rw [if_pos (Nat.cast_nonneg k), Int.floor_natCast]
    omega
  unfold Ideal.fptosi
  rw [h]
  exact BitVec.ofInt_natCast 32 k

/-- The numeric constant of the mask's threshold. -/
theorem threshold : (Ideal.ofBits .f32 1157627904#32 : EReal) = ((2048 : ℝ) : EReal) := by
  simp [Ideal.ofBits, Ideal.ieee, -EReal.coe_mul]
  norm_num

/-- A truth value widened to a word and read as a number. -/
theorem sitofp_ofBool (b : Bool) :
    (FloatOps.sitofp .f32 (BitVec.setWidth 32 (BitVec.ofBool b)) : Ideal .f32) = if b then (1 : EReal) else 0 := by
  cases b
  · show (((BitVec.setWidth 32 (BitVec.ofBool false)).toInt : ℝ) : EReal) = 0
    simp
  · show (((BitVec.setWidth 32 (BitVec.ofBool true)).toInt : ℝ) : EReal) = 1
    rw [show (BitVec.setWidth 32 (BitVec.ofBool true)).toInt = 1 by decide]
    norm_num

/-- The word that the kernel computes for a position is the position. -/
theorem word_pos (i : Fin 8) (r : Fin 512) :
    IntOp.addi (BitVec.ofNat 32 r.val) (Scalar.muli (BitVec.ofNat 32 i.val) 512#32) = BitVec.ofNat 32 (pos i r).val := by
  apply BitVec.eq_of_toNat_eq
  simp [IntOp.addi, Scalar.muli, IntOp.muli, pos, BitVec.toNat_add, BitVec.toNat_mul]
  omega

/-- The number that a position's word stands for. -/
theorem sitofp_pos (i : Fin 8) (r : Fin 512) :
    (FloatOps.sitofp .f32 (IntOp.addi (BitVec.ofNat 32 r.val) (Scalar.muli (BitVec.ofNat 32 i.val) 512#32)) : Ideal .f32)
      = (((pos i r).val : ℝ) : EReal) := by
  rw [word_pos]
  show (((BitVec.ofNat 32 (pos i r).val).toInt : ℝ) : EReal) = _
  rw [WordCmp.toInt_ofNat_of_lt (by have := (pos i r).isLt; omega)]
  simp

/-- The comparison of two positions' words is the comparison of the positions. -/
theorem slt_pos (i : Fin 8) (r : Fin 512) (j : Fin 4096) :
    IntOp.cmpi .slt (IntOp.addi (BitVec.ofNat 32 j.val) (Scalar.muli 0#32 4096#32))
      (IntOp.addi (BitVec.ofNat 32 r.val) (Scalar.muli (BitVec.ofNat 32 i.val) 512#32)) = BitVec.ofBool (decide (j < pos i r)) := by
  have h' : IntOp.addi (BitVec.ofNat 32 j.val) (Scalar.muli 0#32 4096#32) = BitVec.ofNat 32 j.val := by
    simp [IntOp.addi, Scalar.muli, IntOp.muli]
  rw [word_pos, h', WordCmp.cmpi_slt_ofNat (by have := j.isLt; omega) (by have := (pos i r).isLt; omega)]
  rfl

variable (i : grid0.Coords) (own : Vec Ideal S1x1x512 .f32) (row : Vec Ideal S1x1x4096 .f32) (s : Fin 4096 → EReal)

/-- The column of counts holds, at each of the block's positions, the position's rank in the row. -/
theorem count_apply (hrow : ∀ j, row (ix3 0 0 j) = s j) (hown : ∀ r, own (ix3 0 0 r) = s (pos (i 1) r)) (r : Fin 512) :
    k0_pay4 (F := Ideal) i own row (ix2 r 0) = ((rank s (pos (i 1) r) : ℝ) : EReal) := by
  rw [← sum_ahead]
  pointwise [k0_pay4]
  refine Finset.sum_congr rfl fun j _ => ?_
  rw [slt_pos (i 1) r j, hrow, hown, WordCmp.andi_ofBool, WordCmp.ori_ofBool, sitofp_ofBool]
  refine if_congr ?_ rfl rfl
  simp [Ahead]

/-- The mask block is 1 at the positions of rank below 2048, 0 elsewhere. -/
theorem mask_apply (hrow : ∀ j, row (ix3 0 0 j) = s j) (hown : ∀ r, own (ix3 0 0 r) = s (pos (i 1) r)) (r : Fin 512) :
    k0_pay5 (F := Ideal) i own row (ix3 0 0 r) = if rank s (pos (i 1) r) < 2048 then (1 : EReal) else 0 := by
  pointwise [k0_pay5]
  rw [count_apply i own row s hrow hown, threshold, sitofp_ofBool]
  refine if_congr ?_ rfl rfl
  rw [decide_eq_true_iff, EReal.coe_lt_coe_iff]
  exact_mod_cast Iff.rfl

/-- The ranks as words, the same in every column. -/
theorem rankWord_apply (hrow : ∀ j, row (ix3 0 0 j) = s j) (hown : ∀ r, own (ix3 0 0 r) = s (pos (i 1) r)) (r : Fin 512)
    (q : Fin 2048) : k0_pay6 (F := Ideal) i own row (ix2 r q) = BitVec.ofNat 32 (rank s (pos (i 1) r)) := by
  pointwise [k0_pay6]
  rw [count_apply i own row s hrow hown]
  exact fptosi_natCast _ (lt_trans (rank_lt s _) (by norm_num))

/-- The sum of the block's positions whose rank is `q`. -/
def share (s : Fin 4096 → EReal) (b : Fin 8) (q : Fin 2048) : EReal :=
  ∑ r : Fin 512, if rank s (pos b r) = q.val then (((pos b r).val : ℝ) : EReal) else 0

/-- The product of the positions with the table of `rank = q` is, at column `q`, the block's share. -/
theorem share_apply (hrow : ∀ j, row (ix3 0 0 j) = s j) (hown : ∀ r, own (ix3 0 0 r) = s (pos (i 1) r)) (q : Fin 2048) :
    k0_pay1 (F := Ideal) (Scalar.muli (BitVec.ofNat 32 (i 1).val) 512#32)
      (iota Kind.tc S512x2048 32 [1] iota_S512x2048_d1_w32) (k0_pay6 i own row) (ix2 0 q) = share s (i 1) q := by
  pointwise [k0_pay1]
  refine Finset.sum_congr rfl fun r _ => ?_
  rw [sitofp_pos (i 1) r, rankWord_apply i own row s hrow hown,
    WordCmp.cmpi_eq_ofNat (by have := rank_lt s (pos (i 1) r); omega) (by have := q.isLt; omega), sitofp_ofBool]
  by_cases h : rank s (pos (i 1) r) = q.val <;> simp [h]

end Cert.Block

end
-- ==== Proof.Array.lean ====
/-
  WHAT THE KERNEL'S TWO ARRAYS HOLD. The grid's point `t` works on batch `t / 8` and on its positions
  `512 * (t % 8) … 512 * (t % 8) + 511`. The mask array is written a block per point. The array of indices keeps one block
  per batch, to which the batch's eight points add their shares: together, the sum of the positions of rank `q`, and that
  is the one position that a stable descending sort puts at `q`.
-/
module

public import proofs.«01_k».proof.Proof.Block
public import Idealize.ShloMosaic.Lib.Pipeline.ValueKit
public import Idealize.ShloMosaic.Lib.Claim

@[expose] public section

set_option maxRecDepth 16384

noncomputable section

namespace Cert.Array

open Idealize.ShloMosaic Idealize.ShloMosaic.TcCoe Idealize.SL.Sem
open Idealize.ShloMosaic.Pipeline (Dat)
open Cert.KernelIdeal Cert.KernelIdeal.Gen Cert.Rank Cert.Block

variable (m : (ℓ : Loc nD τ sig) → Buf (Elt Ideal) ℓ)

/-- The scores of the four batches, as the operations before the kernel compute them. -/
def scores (c : Dev nD) : S4x4096.Idx → EReal :=
  shapeCast S4x4096 (addf (F := Ideal) (Host.dotGeneral (φ₁ := .f32) (φ₂ := .f32) dot_S4x4096x4096_S1x4096_S4x4096x1_2_1_01_0_n_n none
      (m ((c.tc : Thread nD τ).loc main_arg0)) (m ((c.tc : Thread nD τ).loc main_arg1)))
    (broadcastInDim S4x4096x1 ![0, 1, 2] bcast_S1x1x1_S4x4096x1_0_1_2
      (broadcastInDim S1x1x1 ![2] bcast_S1_S1x1x1_2 (m ((c.tc : Thread nD τ).loc main_arg2))))) shapeCasts_S4x4096x1_S4x4096

/-- Batch `b`'s row of scores. -/
def row (c : Dev nD) (b : Fin 4) (k : Fin 4096) : EReal := scores m c (ix2 b k)

/-- The kernel reads the scores with a unit axis in the middle. -/
theorem entry (c : Dev nD) :
    V m c main_v5 = (shapeCast S4x1x4096 (scores m c) shapeCasts_S4x4096_S4x1x4096 : S4x1x4096.Idx → EReal) := by
  entry_read
  rfl

/-- The blocks' places in the arrays. -/
theorem idx : ∀ t : Fin cfg0.N, win0_0.index t = ![t.val / 8, 0, 0] ∧ win0_1.index t = ![t.val, 0, 0]
    ∧ win0_2.index t = ![t.val / 8, 0, 0] := (by decide +kernel : ∀ t : Fin grid0.N, _)

/-- The second coordinate of a point. -/
theorem coords_1 : ∀ t : Fin cfg0.N, (grid0.coords t 1).val = t.val % 8 := (by decide +kernel : ∀ t : Fin grid0.N, _)

/-- The place where the block's own positions begin. -/
theorem off_eq : ∀ t : Fin cfg0.N, k0_off1 (grid0.coords t) = ![0, 0, t.val % 8 * 512] := (by decide +kernel : ∀ t : Fin grid0.N, _)

/-- A point's batch is one of the four. -/
theorem batch_lt (t : Fin cfg0.N) : t.val / 8 < 4 := by have : t.val < 32 := lt_of_lt_of_eq t.isLt N_0; omega

/-- The block that a point reads is its batch's row. -/
theorem read_row (c : Dev nD) (t : Fin cfg0.N) (j : Fin 4096) :
    (iblk m c 0 t : S1x1x4096.Idx → EReal) (ix3 0 0 j) = row m c ⟨t.val / 8, batch_lt t⟩ j := by
  unfold row
  blk_simp [iblk]
  rw [entry]
  pointwise
  blk_point [idx t]

/-- The part of it at the point's own positions. -/
theorem read_own (c : Dev nD) (t : Fin cfg0.N) (inb) (r : Fin 512) :
    (View.ld (iblk m c 0 t : S1x1x4096.Idx → EReal) (Rect.unit (k0_off1 (grid0.coords t)) S1x1x512.size inb)) (ix3 0 0 r)
      = row m c ⟨t.val / 8, batch_lt t⟩ (pos (grid0.coords t 1) r) := by
  rw [← read_row, View.ld_unit_apply_of _ _ _ _ _ (ix3 0 0 (pos (grid0.coords t 1) r) : S1x1x4096.Idx)]
  intro a
  have h := congrFun (off_eq t) a
  match a with
  | ⟨0, _⟩ => exact (congrArg (· + 0) h).symm
  | ⟨1, _⟩ => exact (congrArg (· + 0) h).symm
  | ⟨2, _⟩ => exact (congrArg (fun k => k * 512 + r.val) (coords_1 t)).trans (congrArg (· + r.val) h).symm

/-- A point's block of the mask. -/
theorem out1 (c : Dev nD) (t : Fin cfg0.N) (r : Fin 512) :
    (outsAt0 m c t.val t.isLt).1 (ix3 0 0 r)
      = if rank (row m c ⟨t.val / 8, batch_lt t⟩) (pos (grid0.coords t 1) r) < 2048 then (1 : EReal) else 0 := by
  by_cases h0 : t.val % 8 = 0
  · rw [outsAt0_A m c t h0 (by omega)]
    frame_out
    exact mask_apply _ _ _ _ (read_row m c t) (read_own m c t _) r
  · rw [outsAt0_B m c t h0 (by omega)]
    frame_out
    exact mask_apply _ _ _ _ (read_row m c t) (read_own m c t _) r

/-- A batch's first point puts its share in the block of indices. -/
theorem out2_first (c : Dev nD) (t : Fin cfg0.N) (h : t.val % 8 = 0) (q : Fin 2048) :
    (outsAt0 m c t.val t.isLt).2 (ix3 0 0 q) = share (row m c ⟨t.val / 8, batch_lt t⟩) (grid0.coords t 1) q := by
  rw [outsAt0_A m c t h (by omega)]
  frame_out
  refine Eq.trans ?_ (share_apply _ _ _ _ (read_row m c t) (read_own m c t (facts.k0_off1_inb _)) q)
  pointwise [k0_pay2]
  rfl

/-- Each later point of the batch adds its share. -/
theorem out2_later (c : Dev nD) (t : Fin cfg0.N) (h : ¬ t.val % 8 = 0) (q : Fin 2048) :
    (outsAt0 m c t.val t.isLt).2 (ix3 0 0 q)
      = (outsAt0 m c (t.val - 1) (Nat.lt_of_le_of_lt (Nat.sub_le _ _) t.isLt)).2 (ix3 0 0 q)
        + share (row m c ⟨t.val / 8, batch_lt t⟩) (grid0.coords t 1) q := by
  rw [outsAt0_B m c t h (by omega)]
  frame_out
  rw [← share_apply _ _ _ _ (read_row m c t) (read_own m c t (facts.k0_off1_inb _)) q]
  pointwise [k0_pay3]
  rfl

/-- The second coordinate of a point, as a number below 8. -/
theorem coords_fin (t : Fin cfg0.N) : (grid0.coords t 1 : Fin 8) = ⟨t.val % 8, Nat.mod_lt _ (by norm_num)⟩ :=
  Fin.ext (coords_1 t)

/-- An index whose first two axes have extent 1 is its last coordinate. -/
theorem exists_unit {n : Nat} (y : (⟨3, ![1, 1, n]⟩ : Shape).Idx) : ∃ k : Fin n, y = ix3 0 0 k := by
  refine ⟨y 2, ?_⟩
  funext a
  match a with
  | ⟨0, _⟩ => exact Subsingleton.elim (α := Fin 1) _ _
  | ⟨1, _⟩ => exact Subsingleton.elim (α := Fin 1) _ _
  | ⟨2, _⟩ => rfl

/-- What the mask array holds, a block of 512 per point. -/
def maskArray (c : Dev nD) (y : S32x1x512.Idx) : EReal :=
  if rank (row m c ⟨(y 0).val / 8, by have : (y 0).val < 32 := (y 0).isLt; omega⟩) (pos ⟨(y 0).val % 8, by omega⟩ (y 2)) < 2048
    then 1 else 0

/-- What the array of indices holds, a row of 2048 per batch. -/
def indexArray (c : Dev nD) (y : S4x1x2048.Idx) : EReal :=
  (((nth (row m c (y 0)) (Fin.castLE (show 2048 ≤ 4096 by norm_num) (y 2))).val : ℝ) : EReal)

/-- The mask array after the last point. -/
theorem final_1 (c : Dev nD) : (dats m 0 c).arrAt 1 (cfgs 0).N = maskArray m c := by
  refine (dats m 0 c).arrAt_eq_of_covers 1 _ (by decide +kernel) fun t hf y => ?_
  obtain ⟨r, rfl⟩ : ∃ r : Fin 512, y = (ix3 0 0 r : S1x1x512.Idx) := exists_unit y
  blk_simp
  have e : (win0_1.blk t).view.emb (ix3 0 0 r : S1x1x512.Idx) = (ix3 ⟨t.val, lt_of_lt_of_eq t.isLt N_0⟩ 0 r : S32x1x512.Idx) := by
    blk_ext [idx t]
  rw [after0_1, e, out1, coords_fin]
  rfl

/-- The shares of a batch's eight blocks sum to the position that the sort puts at `q`. -/
theorem sum_share (s : Fin 4096 → EReal) (q : Fin 2048) :
    ∑ b : Fin 8, share s b q = (((nth s (Fin.castLE (by norm_num) q)).val : ℝ) : EReal) := by
  rw [← sum_rank s (fun p => ((p.val : ℝ) : EReal)) (Fin.castLE (by norm_num) q)]
  unfold share
  exact Fin.sum_mul_add_congr fun b r hl => rfl

/-- The array of indices after the last point. -/
theorem final_2 (c : Dev nD) : (dats m 0 c).arrAt 2 (cfgs 0).N = indexArray m c := by
  refine (dats m 0 c).arrAt_eq_of_covers 2 _ (by decide +kernel) fun t hf y => ?_
  obtain ⟨q, rfl⟩ : ∃ q : Fin 2048, y = (ix3 0 0 q : S1x1x2048.Idx) := exists_unit y
  blk_simp
  have e : (win0_2.blk t).view.emb (ix3 0 0 q : S1x1x2048.Idx) = (ix3 ⟨t.val / 8, batch_lt t⟩ 0 q : S4x1x2048.Idx) := by
    blk_ext [idx t]
  rw [after0_2, e, Pipeline.eq_sum_fin_of_reset_step_apply_of_flush (fun n h => (outsAt0 m c n h).2) 8 (fun _ => (0 : EReal))
    (fun p y => share (row m c ⟨p.val / 8, batch_lt p⟩) (grid0.coords p 1) (y 2))
    (fun p h y => by obtain ⟨q', rfl⟩ := exists_unit y; rw [out2_first m c p h, zero_add]; rfl)
    (fun p h y => by obtain ⟨q', rfl⟩ := exists_unit y; rw [out2_later m c p h]; rfl)
    t ((flush0_2 t).mp hf) (ix3 0 0 q), zero_add]
  refine Eq.trans ?_ (sum_share (row m c ⟨t.val / 8, batch_lt t⟩) q)
  refine Fin.sum_fin_congr fun b => ?_
  refine congrArg₂ (fun a k => share (row m c a) k q) (Fin.ext ?_) ((coords_fin _).trans (Fin.ext ?_))
  · show (8 * (t.val / 8) + b.val) / 8 = t.val / 8
    omega
  · show (8 * (t.val / 8) + b.val) % 8 = b.val
    omega

end Cert.Array

end
-- ==== Proof.Ref.lean ====
/-
  WHAT THE REFERENCE COMPUTES. Its indices are the positions that a stable descending sort of a batch's scores puts
  first; its mask sets to 1 the entries that these indices name, so an entry is 1 exactly when its rank is below 2048.
-/
module

public import proofs.«01_k».proof.Proof.Gen.ReferenceIdeal.Run
public import proofs.«01_k».proof.Proof.Rank
public import Idealize.ShloMosaic.Lib.Pointwise
public import Idealize.ShloMosaic.Lib.WordCmp
public import Idealize.ShloMosaic.Lib.IdealHost
public import Idealize.ShloMosaic.Lib.Routing.OpsSet
public import Idealize.ShloMosaic.Lib.Routing.OpsPair

@[expose] public section

noncomputable section

namespace Cert.Ref

open Idealize.ShloMosaic Idealize.ShloMosaic.Routing
open Cert.ReferenceIdeal Cert.ReferenceIdeal.Gen Cert.Rank

variable (x : S4x4096.Idx → EReal)

/-- Batch `b`'s row of a table of scores. -/
def row (b : Fin 4) (k : Fin 4096) : EReal := x (ix2 b k)

/-- The indices of a top-k along the rows of a table: at place `k` of row `a`, the position that the descending sort of the
    row puts at `k`. -/
theorem topK_indices_apply {A B K : Nat} (y : (⟨2, ![A, B]⟩ : Shape).Idx → EReal) (hK : K ≤ B)
    (h : (⟨2, ![A, B]⟩ : Shape).Slices (fun _ => 0) ⟨2, ![A, K]⟩) (a : Fin A) (k : Fin K) :
    (Host.topK ⟨2, ![A, K]⟩ 1 (FloatOps.cmpfTotal (F := Ideal) (φ := .f32) .gt) y h).2 (ix2 a k)
      = BitVec.ofNat 32 (nth (fun j => y (ix2 a j)) (k.castLE hK)).val := by
  have ha : ∀ (b j : Fin B), Shape.Idx.along (s := ⟨2, ![A, B]⟩) (ix2 a b) (1 : Fin 2) j = ix2 a j := fun b j => by
    funext c
    match c with
    | ⟨0, _⟩ => rfl
    | ⟨1, _⟩ => rfl
  have hb : ∀ b : Fin B, (fun j j' : Fin B => (FloatOps.cmpfTotal (F := Ideal) (φ := .f32) .gt
      (y (Shape.Idx.along (s := ⟨2, ![A, B]⟩) (ix2 a b) (1 : Fin 2) j))
      (y (Shape.Idx.along (s := ⟨2, ![A, B]⟩) (ix2 a b) (1 : Fin 2) j')) == 1#1)) = larger fun j => y (ix2 a j) := fun b => by
    funext j j'
    rw [ha, ha]
    show (BitVec.ofBool (decide (y (ix2 a j') < y (ix2 a j))) == 1#1) = decide (y (ix2 a j') < y (ix2 a j))
    cases decide (y (ix2 a j') < y (ix2 a j)) <;> rfl
  have e : (fun c : Fin 2 => (⟨0 + (ix2 a k c).val, by have := h.2 c; have := (ix2 a k c).isLt; exact Nat.lt_of_lt_of_le (Nat.add_lt_add_left this 0) (h.2 c)⟩ :
      Fin ((⟨2, ![A, B]⟩ : Shape).size c))) = ix2 a (k.castLE hK) := by
    funext c
    match c with
    | ⟨0, _⟩ => exact Fin.ext (Nat.zero_add _)
    | ⟨1, _⟩ => exact Fin.ext (Nat.zero_add _)
  unfold Host.topK Host.sort2 extractStridedSlice
  simp only [show (1 : Nat) < 2 from by decide, dif_pos]
  refine (congrArg (fun i : (⟨2, ![A, B]⟩ : Shape).Idx => BitVec.ofNat 32 (sortedFrom (fun j j' : Fin B =>
    (FloatOps.cmpfTotal (F := Ideal) (φ := .f32) .gt (y (Shape.Idx.along i (1 : Fin 2) j)) (y (Shape.Idx.along i (1 : Fin 2) j')) == 1#1))
    (i 1)).val) e).trans ?_
  show BitVec.ofNat 32 (sortedFrom (fun j j' : Fin B => _) (k.castLE hK)).val = _
  rw [hb]
  rfl

/-- The reference's indices, from a table of scores. -/
def indices : IVec S4x2048 32 :=
  (Host.topK S4x2048 1 (FloatOps.cmpfTotal (F := Ideal) (φ := .f32) .gt) x sliceFits_S4x4096_S4x2048).2

/-- Index `q` of batch `b` is the position that the sort of the batch's scores puts at `q`. -/
theorem indices_apply (b : Fin 4) (q : Fin 2048) :
    indices x (ix2 b q) = BitVec.ofNat 32 (nth (row x b) (q.castLE (by norm_num))).val :=
  topK_indices_apply x (by norm_num) sliceFits_S4x4096_S4x2048 b q

/-- The index pairs that the scatter takes: the batch's number and the index, a negative one counted from the end. -/
def pairs (ix : IVec S4x2048 32) : IVec S4x2048x2 32 :=
  concatenate S4x2048x2 2 [⟨S4x2048x1, (broadcastInDim S4x2048x1 ![0, 1] bcast_S4x2048_S4x2048x1_0_1 (broadcastInDim S4x2048 ![0, 1] bcast_S4x1_S4x2048_0_1 (select (cmpi .slt (broadcastInDim S4x1 ![0] bcast_S4_S4x1_0 (iotaInDim S4 32 0)) (broadcastInDim S4x1 ![] bcast_S_S4x1 (constantI S_ 32 0#32))) (addi (broadcastInDim S4x1 ![0] bcast_S4_S4x1_0 (iotaInDim S4 32 0)) (broadcastInDim S4x1 ![] bcast_S_S4x1 (constantI S_ 32 4#32))) (broadcastInDim S4x1 ![0] bcast_S4_S4x1_0 (iotaInDim S4 32 0)))))⟩, ⟨S4x2048x1, (broadcastInDim S4x2048x1 ![0, 1] bcast_S4x2048_S4x2048x1_0_1 (select (cmpi .slt ix (broadcastInDim S4x2048 ![] bcast_S_S4x2048 (constantI S_ 32 0#32))) (addi ix (broadcastInDim S4x2048 ![] bcast_S_S4x2048 (constantI S_ 32 4096#32))) ix))⟩] concatenates_S4x2048x1_S4x2048x1_S4x2048x2_d2

/-- The first of a pair is the batch's number. -/
theorem pairs_0 (ix : IVec S4x2048 32) (b : Fin 4) (q : Fin 2048) : pairs ix (ix3 b q 0) = BitVec.ofNat 32 b.val := by
  pointwise [pairs]
  exact wrap_of_lt _ _ (by rw [BitVec.toNat_ofNat]; omega)

/-- The second of a pair is the index, where that is not negative. -/
theorem pairs_1 (ix : IVec S4x2048 32) (b : Fin 4) (q : Fin 2048) (h : (ix (ix2 b q)).toNat < 4096) :
    pairs ix (ix3 b q 1) = ix (ix2 b q) := by
  pointwise [pairs]
  exact wrap_of_lt _ _ (by omega)

/-- The reference's mask, from its indices. -/
def mask (ix : IVec S4x2048 32) : S4x4096.Idx → EReal :=
  Host.scatter scatter_S4x4096_S4x2048x2_S4x2048_n_01_01_2 (fun _ b => b)
    (broadcastInDim S4x4096 ![] bcast_S_S4x4096 (constant (F := Ideal) S_ .f32 0x00000000#32)) (pairs ix)
    (broadcastInDim S4x2048 ![] bcast_S_S4x2048 (constant (F := Ideal) S_ .f32 0x3F800000#32))

/-- Update `q` of batch `b'` writes entry `p` of batch `b` exactly when the batches agree and the sort puts `p` at `q`. -/
theorem lands_iff (b' b : Fin 4) (q : Fin 2048) (p : Fin 4096) :
    scatter_S4x4096_S4x2048x2_S4x2048_n_01_01_2.resultIdx? (ix2 b' q) (pairs (indices x)) = some (ix2 b p)
      ↔ b' = b ∧ nth (row x b') (q.castLE (by norm_num)) = p := by
  have hlt : (nth (row x b') (q.castLE (by norm_num))).val < 4096 := Fin.isLt _
  have h1 := pairs_1 (indices x) b' q (by rw [indices_apply, BitVec.toNat_ofNat]; omega)
  rw [indices_apply] at h1
  have h := scatter_lands2 scatter_S4x4096_S4x2048x2_S4x2048_n_01_01_2 rfl rfl rfl (pairs (indices x)) b' q b p
  have e3 : ∀ l : Fin 2, ValueIdx.ix3 b' q l = ix3 b' q l := fun l => ix3_eta (ValueIdx.ix3 b' q l)
  rw [← ix2_eta (ValueIdx.ix2 b' q), ← ix2_eta (ValueIdx.ix2 b p), e3, e3] at h
  rw [pairs_0, h1, WordCmp.toInt_ofNat_of_lt (by omega), WordCmp.toInt_ofNat_of_lt (by omega)] at h
  refine h.trans (and_congr ?_ ?_)
  · rw [Int.natCast_inj, Fin.ext_iff]
  · rw [Int.natCast_inj, Fin.ext_iff]

/-- The reference's mask is 1 at the entries of rank below 2048, 0 elsewhere. -/
theorem mask_apply (b : Fin 4) (p : Fin 4096) :
    mask (indices x) (ix2 b p) = if rank (row x b) p < 2048 then (1 : EReal) else 0 := by
  unfold mask
  by_cases h : rank (row x b) p < 2048
  · obtain ⟨q, hq⟩ := (rank_lt_iff (row x b) p (by norm_num)).mp h
    rw [if_pos h]
    exact scatter_set_hit _ _ _ _ _ 1 (fun _ _ => Ideal.ofBits_one_f32) (ix2 b q) ((lands_iff x b b q p).mpr ⟨rfl, hq⟩)
  · rw [if_neg h, scatter_set_miss _ _ _ _ _ fun k hk => h ?_]
    · exact Ideal.ofBits_zero_f32
    · rw [eq_ix2 k] at hk
      obtain ⟨hb, hq⟩ := (lands_iff x _ b _ p).mp hk
      rw [hb] at hq
      exact (rank_lt_iff (row x b) p (by norm_num)).mpr ⟨_, hq⟩

end Cert.Ref

end
-- ==== Proof.Equal.lean ====
/-
  THE KERNEL'S RESULTS ARE THE REFERENCE'S. After the kernel the two arrays are reshaped to a row per batch and the indices
  are converted to words. What comes out is, entry by entry, what the reference computes from the same scores.
-/
module

public import proofs.«01_k».proof.Proof.Array
public import proofs.«01_k».proof.Proof.Ref

@[expose] public section

set_option maxRecDepth 16384

noncomputable section

namespace Cert.Equal

open Idealize.ShloMosaic Idealize.ShloMosaic.TcCoe Idealize.SL.Sem
open Cert.KernelIdeal Cert.KernelIdeal.Gen Cert.Rank Cert.Block

variable (m : (ℓ : Loc nD τ sig) → Buf (Elt Ideal) ℓ)

/-- The reshaped mask array is the reference's mask of the scores. -/
theorem mask_eq (c : Dev nD) :
    (shapeCast S4x4096 (Array.maskArray m c) shapeCasts_S32x1x512_S4x4096 : S4x4096.Idx → EReal)
      = Ref.mask (Ref.indices (Array.scores m c)) := by
  funext j
  rw [eq_ix2 j]
  refine Eq.trans ?_ (Ref.mask_apply (Array.scores m c) (j 0) (j 1)).symm
  pointwise
  unfold Array.maskArray
  have hj : (j 1).val < 4096 := (j 1).isLt
  refine if_congr (iff_of_eq (congrArg (· < 2048) (congrArg₂ (fun b p => rank (Array.row m c b) p) (Fin.ext ?_) (Fin.ext ?_)))) rfl rfl
  · show ((j 0).val * 8 + (j 1).val / 512) / 8 = (j 0).val
    omega
  · show ((j 0).val * 8 + (j 1).val / 512) % 8 * 512 + (j 1).val % 512 = (j 1).val
    omega

/-- The reshaped array of indices, converted to words, is the reference's indices. -/
theorem indices_eq (c : Dev nD) :
    (fptosi 32 (shapeCast S4x2048 (Array.indexArray m c) shapeCasts_S4x1x2048_S4x2048 : FVec Ideal S4x2048 .f32) : IVec S4x2048 32)
      = Ref.indices (Array.scores m c) := by
  funext j
  rw [eq_ix2 j]
  refine Eq.trans ?_ (Ref.indices_apply (Array.scores m c) (j 0) (j 1)).symm
  pointwise
  exact fptosi_natCast _ (lt_trans (Fin.isLt _) (by norm_num))

/-- The kernel's program ends with the two results of the reference, computed from its own scores, and its arguments as they
    were. -/
theorem run (ρ : Dev nD → PrngReg) : θ_run defs (onTc (τ := τ) (main (F := Ideal))) ⟨m, fun _ => 0, ρ⟩ (fun r => ∀ c : Dev nD,
    r.2.mem ((c.tc : Thread nD τ).loc main_v7) = Ref.mask (Ref.indices (Array.scores m c))
    ∧ r.2.mem ((c.tc : Thread nD τ).loc main_v9) = Ref.indices (Array.scores m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  have hinj : Function.Injective (Pipeline.arrRef spec0) := by decide
  have h1 : ∀ c, Pipeline.afterTail₀ cfgs (dats m) 0 (V0 m) [hostOps1] c main_v7
      = shapeCast S4x4096 (Array.maskArray m c) shapeCasts_S32x1x512_S4x4096 := fun c => by
    have w : Pipeline.withArrays spec0 c (V0 m c) (fun w => (dats m 0 c).arrAt w (cfgs 0).N)
        (Proc.devRef .tc (Pipeline.arrRef spec0 1)) = (dats m 0 c).arrAt 1 (cfgs 0).N :=
      Pipeline.withArrays_arr spec0 hinj c (V0 m c) (fun w => (dats m 0 c).arrAt w (cfgs 0).N) 1
    rw [← Array.final_1, ← w]
    rfl
  have h2 : ∀ c, Pipeline.afterTail₀ cfgs (dats m) 0 (V0 m) [hostOps1] c main_v9
      = fptosi 32 (shapeCast S4x2048 (Array.indexArray m c) shapeCasts_S4x1x2048_S4x2048 : FVec Ideal S4x2048 .f32) := fun c => by
    have w : Pipeline.withArrays spec0 c (V0 m c) (fun w => (dats m 0 c).arrAt w (cfgs 0).N)
        (Proc.devRef .tc (Pipeline.arrRef spec0 2)) = (dats m 0 c).arrAt 2 (cfgs 0).N :=
      Pipeline.withArrays_arr spec0 hinj c (V0 m c) (fun w => (dats m 0 c).arrAt w (cfgs 0).N) 2
    rw [← Array.final_2, ← w]
    rfl
  refine (θ_run defs _ _).mono (fun r h c => ?_) (θ_run_and (run_main m ρ) (unchanged m ρ))
  refine ⟨?_, ?_, h.2 c⟩
  · rw [← mask_eq, ← h1]
    exact (h.1 c).2 main_v7 (Pipeline.mem_restRefs_of main_v7 (by decide) (by decide))
  · rw [← indices_eq, ← h2]
    exact (h.1 c).2 main_v9 (Pipeline.mem_restRefs_of main_v9 (by decide) (by decide))

end Cert.Equal

end
-- ==== Proof.lean ====
/-
  THE CLAIM. Each program terminates with its arguments as they were and every semaphore counter at zero. At the ideal
  values the kernel's two results, the mask and the indices, are the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equal
public import Idealize.ShloMosaic.Lib.Quiescent

@[expose] public section

noncomputable section

namespace Cert.Proof

open Idealize.ShloMosaic Idealize.SL.Sem

/-- The reference terminates, keeps its arguments and has no semaphore that could be left raised. -/
theorem reference_frame : Cert.quiescent_ReferenceIdeal := fun m ρ _ =>
  (θ_run _ _ _).mono (fun r h => ⟨fun c => (h c).2.2, sem_eq_zero_of_no_sems (by decide) r.2⟩)
    (Cert.ReferenceIdeal.Value.run (F := Ideal) m ρ)

/-- From the same arguments the kernel and the reference end with the same mask and the same indices. -/
theorem equal_results : Cert.algebraic_KernelIdeal_ReferenceIdeal := fun m ρ m' ρ' _ hargs => by
  refine ⟨fun c => Cert.Ref.mask (Cert.Ref.indices (Cert.Array.scores m c)), fun c => Cert.Ref.indices (Cert.Array.scores m c),
    Cert.Equal.run m ρ, (θ_run _ _ _).mono (fun r h c => ?_) (Cert.ReferenceIdeal.Value.run (F := Ideal) m' ρ')⟩
  obtain ⟨h0, h1, h2⟩ := hargs c
  obtain ⟨hmask, hindices, hkept⟩ := h c
  rw [h0, h1, h2] at hmask hindices
  exact ⟨hmask, hindices, hkept⟩

/-- Everything that the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, equal_results⟩

end Cert.Proof

end
